-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_c)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v0_2)) (v5 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_c) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_c) = v4 c
          ∧ r.2.mem ((c.tc : Thread Cert.ReferenceIdeal.nD Cert.ReferenceIdeal.τ).loc Cert.ReferenceIdeal.main_c_0) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S16384 : Shape := ⟨1, ![16384]⟩
abbrev S16384x128 : Shape := ⟨2, ![16384, 128]⟩
abbrev S2x524288 : Shape := ⟨2, ![2, 524288]⟩
abbrev S2 : Shape := ⟨1, ![2]⟩
abbrev S8192x128 : Shape := ⟨2, ![8192, 128]⟩
abbrev S2x262144 : Shape := ⟨2, ![2, 262144]⟩
abbrev S1808x128 : Shape := ⟨2, ![1808, 128]⟩
abbrev S6384x128 : Shape := ⟨2, ![6384, 128]⟩
abbrev S2x57856 : Shape := ⟨2, ![2, 57856]⟩
abbrev S2x204288 : Shape := ⟨2, ![2, 204288]⟩
abbrev S1 : Shape := ⟨1, ![1]⟩
abbrev S524288 : Shape := ⟨1, ![524288]⟩
abbrev S_ : Shape := ⟨0, ![]⟩

abbrev nBuf : Space → Nat
  | .hbm => 11
  | .vmem => 8
  | .smem => 2
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S16384, .i1⟩
  | .hbm, ⟨3, _⟩ => ⟨S16384x128, .f32⟩
  | .hbm, ⟨4, _⟩ => ⟨S2x524288, .i32⟩
  | .hbm, ⟨5, _⟩ => ⟨S2, .i32⟩
  | .hbm, ⟨6, _⟩ => ⟨S2, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .local _ .vmem, ⟨0, _⟩ => ⟨S8192x128, .f32⟩
  | .local _ .vmem, ⟨1, _⟩ => ⟨S8192x128, .f32⟩
  | .local _ .vmem, ⟨2, _⟩ => ⟨S2x262144, .i32⟩
  | .local _ .vmem, ⟨3, _⟩ => ⟨S2x262144, .i32⟩
  | .local _ .vmem, ⟨4, _⟩ => ⟨S8192x128, .f32⟩
  | .local _ .vmem, ⟨5, _⟩ => ⟨S8192x128, .f32⟩
  | .local _ .vmem, ⟨6, _⟩ => ⟨S2x262144, .i32⟩
  | .local _ .vmem, ⟨7, _⟩ => ⟨S2x262144, .i32⟩
  | .local _ .smem, ⟨0, _⟩ => ⟨S2, .i32⟩
  | .local _ .smem, ⟨1, _⟩ => ⟨S2, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let c1_i32 : BitVec 32 := 1#32
  let arg0 : BitVec 32 := BitVec.ofNat 32 (i 0).val
  let v0 : BitVec 32 := Scalar.subi c1_i32 arg0
  let c1_i32_0 : BitVec 32 := 1#32
  let v1 : BitVec 1 := Scalar.cmpi .slt v0 c1_i32_0
  let v2 : BitVec 32 := Scalar.extui v1
  let c0_i32 : BitVec 32 := 0#32
  let v3 : BitVec 1 := Scalar.cmpi .ne v2 c0_i32
  v3

def k0_cond2 (i : grid0.Coords) : BitVec 1 :=
  let c1_i32 : BitVec 32 := 1#32
  let arg0 : BitVec 32 := BitVec.ofNat 32 (i 0).val
  let v0 : BitVec 32 := Scalar.subi c1_i32 arg0
  let c1_i32_1 : BitVec 32 := 1#32
  let v4 : BitVec 1 := Scalar.cmpi .eq v0 c1_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let c1_i32 : BitVec 32 := 1#32
  let arg0 : BitVec 32 := BitVec.ofNat 32 (i 0).val
  let v0 : BitVec 32 := Scalar.subi c1_i32 arg0
  let c1_i32_3 : BitVec 32 := 1#32
  let v7 : BitVec 1 := Scalar.cmpi .sgt v0 c1_i32_3
  let v8 : BitVec 32 := Scalar.extui v7
  let c0_i32_4 : BitVec 32 := 0#32
  let v9 : BitVec 1 := Scalar.cmpi .ne v8 c0_i32_4
  v9

def k0_cond4 (i : grid0.Coords) : BitVec 1 :=
  let c1_i32 : BitVec 32 := 1#32
  let arg0 : BitVec 32 := BitVec.ofNat 32 (i 0).val
  let v0 : BitVec 32 := Scalar.subi c1_i32 arg0
  let c1_i32_5 : BitVec 32 := 1#32
  let v10 : BitVec 1 := Scalar.cmpi .slt v0 c1_i32_5
  let v11 : BitVec 32 := Scalar.extui v10
  let c0_i32_6 : BitVec 32 := 0#32
  let v12 : BitVec 1 := Scalar.cmpi .ne v11 c0_i32_6
  v12

def k0_cond5 (i : grid0.Coords) : BitVec 1 :=
  let c1_i32 : BitVec 32 := 1#32
  let arg0 : BitVec 32 := BitVec.ofNat 32 (i 0).val
  let v0 : BitVec 32 := Scalar.subi c1_i32 arg0
  let c1_i32_7 : BitVec 32 := 1#32
  let v13 : BitVec 1 := Scalar.cmpi .eq v0 c1_i32_7
  let v14 : BitVec 32 := Scalar.extui v13
  let c0_i32_8 : BitVec 32 := 0#32
  let v15 : BitVec 1 := Scalar.cmpi .ne v14 c0_i32_8
  v15

def k0_cond6 (i : grid0.Coords) : BitVec 1 :=
  let c1_i32 : BitVec 32 := 1#32
  let arg0 : BitVec 32 := BitVec.ofNat 32 (i 0).val
  let v0 : BitVec 32 := Scalar.subi c1_i32 arg0
  let c1_i32_9 : BitVec 32 := 1#32
  let v16 : BitVec 1 := Scalar.cmpi .sgt v0 c1_i32_9
  let v17 : BitVec 32 := Scalar.extui v16
  let c0_i32_10 : BitVec 32 := 0#32
  let v18 : BitVec 1 := Scalar.cmpi .ne v17 c0_i32_10
  v18

def k0_cond7 (i : grid0.Coords) : BitVec 1 :=
  let arg0 : BitVec 32 := BitVec.ofNat 32 (i 0).val
  let c0_i32_11 : BitVec 32 := 0#32
  let v19 : BitVec 1 := Scalar.cmpi .eq arg0 c0_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let c1_i32 : BitVec 32 := 1#32
  let v0 : BitVec 32 := Scalar.subi c1_i32 arg0
  let c1_i32_0 : BitVec 32 := 1#32
  let v1 : BitVec 32 := Scalar.minsi v0 c1_i32_0
  let c0_i32 : BitVec 32 := 0#32
  let c0_i32_1 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi c1_i32 arg0
  let c1_i32_0 : BitVec 32 := 1#32
  let v1 : BitVec 32 := Scalar.minsi v0 c1_i32_0
  let c0_i32 : BitVec 32 := 0#32
  let c0_i32_1 : BitVec 32 := 0#32
  ![c0_i32.toNat, v1.toNat]

def cc0_transform_2 (i : grid0.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![c0_i32.toNat, v0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x262144 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S10000x128 : Shape := ⟨2, ![10000, 128]⟩
abbrev S2x320000 : Shape := ⟨2, ![2, 320000]⟩
abbrev S2 : Shape := ⟨1, ![2]⟩
abbrev S_ : Shape := ⟨0, ![]⟩
abbrev S6384x128 : Shape := ⟨2, ![6384, 128]⟩
abbrev S16384x128 : Shape := ⟨2, ![16384, 128]⟩
abbrev S2x204288 : Shape := ⟨2, ![2, 204288]⟩
abbrev S2x524288 : Shape := ⟨2, ![2, 524288]⟩
abbrev S16384 : Shape := ⟨1, ![16384]⟩
abbrev S524288 : Shape := ⟨1, ![524288]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S2, .i32⟩
  | .hbm, ⟨3, _⟩ => ⟨S2, .i32⟩
  | .hbm, ⟨4, _⟩ => ⟨S_, .f32⟩
  | .hbm, ⟨5, _⟩ => ⟨S6384x128, .f32⟩
  | .hbm, ⟨6, _⟩ => ⟨S16384x128, .f32⟩
  | .hbm, ⟨7, _⟩ => ⟨S_, .i32⟩
  | .hbm, ⟨8, _⟩ => ⟨S2x204288, .i32⟩
  | .hbm, ⟨9, _⟩ => ⟨S2x524288, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Body.lean ====
/-
  The kernel body at one point of its two-point grid. The grid runs backwards over the two blocks of each output:
  its first point writes the BOUNDARY block (the last real rows, then padding; the last real edges, then padding)
  and the four size words, its second point copies the whole block before it. Each case is one run of the body on
  arbitrary whole staging buffers, and what the body leaves is stated over what the buffers read before.
-/
module

public import proofs.«01_k».proof.Proof.Gen.KernelIdeal.Frame
public import proofs.«01_k».proof.Proof.Gen.KernelIdeal.Skeleton
public import Idealize.ShloMosaic.Lib.CellWrites
public import Idealize.ShloMosaic.Lib.VecWindow

@[expose] public section

set_option maxRecDepth 16384

noncomputable section

namespace Cert.PadProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body leaves, over what it was handed -/

/-- The float zero the node rows are padded with. -/
def zeroF : Elt F .f32 := (Scalar.ofBits .f32 0x00000000#32 : F .f32)

/-- A block of node rows, its rows from `R` on replaced by zero. -/
def padRows (R : ℕ) (X : S8192x128.Idx → Elt F .f32) : S8192x128.Idx → Elt F .f32 :=
  fun j => if (j 0).val < R then X j else zeroF

/-- A block of edge columns, its columns from `C` on replaced by the index 10000 of the first padding node. -/
def padCols (C : ℕ) (X : S2x262144.Idx → Elt F .i32) : S2x262144.Idx → Elt F .i32 :=
  fun j => if (j 1).val < C then X j else (10000#32 : BitVec 32)

/-- The two words `a`, `b` of a size result. -/
def pairOf (a b : BitVec 32) : S2.Idx → Elt F .i32 := fun j => if (j 0).val = 0 then a else b

/-- A block of 8192 rows padded from row 8192 on is itself. -/
theorem padRows_whole (X : S8192x128.Idx → Elt F .f32) : padRows 8192 X = X :=
  funext fun j => if_pos (j 0).isLt

/-- A block of 262144 columns padded from column 262144 on is itself. -/
theorem padCols_whole (X : S2x262144.Idx → Elt F .i32) : padCols 262144 X = X :=
  funext fun j => if_pos (j 1).isLt

/-- Two stores whose payloads are both what `G` says at the places written, and whose places are all there are,
    leave `G`. -/
theorem read_two_pieces {κ : Kind} {sp : Space} {s : Shape} {e : EltTy} (v : View sig κ sp s e) (f : v.ty.Contents (Elt F))
    (G : s.Idx → Elt F e) (p q : View.Piece (Elt F) s e) (hp : ∀ x, p.2 x = G (p.1.emb x)) (hq : ∀ x, q.2 x = G (q.1.emb x))
    (hc : ∀ y, y ∈ p.1.set ∨ y ∈ q.1.set) : v.read (Elt F) (v.writes (Elt F) f [p, q]) = G := by
  funext y
  refine View.read_writes_apply_of_pieces v f G [p, q] (fun r hr => ?_) y ?_
  · rcases List.mem_pair.mp hr with rfl | rfl
    · exact hp
    · exact hq
  · rcases hc y with h | h
    · exact ⟨p, by simp, h⟩
    · exact ⟨q, by simp, h⟩

/-- Two stores that tile a block of rows — the first 1808 rows loaded from a view that reads `X`, zeros on the
    other 6384 — leave `X` padded from row 1808 on. -/
theorem read_boundary_rows {κ κ' : Kind} {sp sp' : Space} (v : View sig κ sp S8192x128 .f32) (f : v.ty.Contents (Elt F))
    (v' : View sig κ' sp' S8192x128 .f32) (f' : v'.ty.Contents (Elt F)) :
    v.read (Elt F) (v.writes (Elt F) f
        [⟨Rect.unit ![1808, 0] S6384x128.size inb_S8192x128_S6384x128_1808_0, k0_pay1⟩,
          ⟨Rect.unit ![0, 0] S1808x128.size inb_S8192x128_S1808x128_0_0,
            v'.readAt (Elt F) (Rect.unit (s := S8192x128) ![0, 0] S1808x128.size inb_S8192x128_S1808x128_0_0).toLoadRect f'⟩])
      = padRows 1808 (v'.read (Elt F) f') := by
  refine read_two_pieces v f _ _ _ (fun x => ?_) (fun x => ?_) (fun y => ?_)
  · exact (if_neg (show ¬1808 + 1 * (x 0).val < 1808 by omega)).symm
  · have hx : (x 0).val < 1808 := (x 0).isLt
    exact (if_pos (show 0 + 1 * (x 0).val < 1808 by omega)).symm
  · have h0 : (y 0).val < 8192 := (y 0).isLt
    have h1 : (y 1).val < 0 + 128 := by rw [Nat.zero_add]; exact (y 1).isLt
    by_cases h : (y 0).val < 0 + 1808
    · exact Or.inr ((Rect.mem_set_unit (inb := inb_S8192x128_S1808x128_0_0)).mpr (Fin.forall_fin_two.mpr ⟨⟨Nat.zero_le _, h⟩, ⟨Nat.zero_le _, h1⟩⟩))
    · have h2 : 1808 ≤ (y 0).val := by omega
      have h3 : (y 0).val < 1808 + 6384 := by omega
      exact Or.inl ((Rect.mem_set_unit (inb := inb_S8192x128_S6384x128_1808_0)).mpr (Fin.forall_fin_two.mpr ⟨⟨h2, h3⟩, ⟨Nat.zero_le _, h1⟩⟩))

/-- Two stores that tile a block of edge columns — the first 57856 columns loaded from a view that reads `X`, the
    padding index on the other 204288 — leave `X` padded from column 57856 on. -/
theorem read_boundary_cols {κ κ' : Kind} {sp sp' : Space} (v : View sig κ sp S2x262144 .i32) (f : v.ty.Contents (Elt F))
    (v' : View sig κ' sp' S2x262144 .i32) (f' : v'.ty.Contents (Elt F)) :
    v.read (Elt F) (v.writes (Elt F) f
        [⟨Rect.unit ![0, 57856] S2x204288.size inb_S2x262144_S2x204288_0_57856, k0_pay3⟩,
          ⟨Rect.unit ![0, 0] S2x57856.size inb_S2x262144_S2x57856_0_0,
            v'.readAt (Elt F) (Rect.unit (s := S2x262144) ![0, 0] S2x57856.size inb_S2x262144_S2x57856_0_0).toLoadRect f'⟩])
      = padCols 57856 (v'.read (Elt F) f') := by
  refine read_two_pieces v f _ _ _ (fun x => ?_) (fun x => ?_) (fun y => ?_)
  · exact (if_neg (show ¬57856 + 1 * (x 1).val < 57856 by omega)).symm
  · have hx : (x 1).val < 57856 := (x 1).isLt
    exact (if_pos (show 0 + 1 * (x 1).val < 57856 by omega)).symm
  · have h0 : (y 0).val < 0 + 2 := by rw [Nat.zero_add]; exact (y 0).isLt
    have h1 : (y 1).val < 262144 := (y 1).isLt
    by_cases h : (y 1).val < 0 + 57856
    · exact Or.inr ((Rect.mem_set_unit (inb := inb_S2x262144_S2x57856_0_0)).mpr (Fin.forall_fin_two.mpr ⟨⟨Nat.zero_le _, h0⟩, ⟨Nat.zero_le _, h⟩⟩))
    · have h2 : 57856 ≤ (y 1).val := by omega
      have h3 : (y 1).val < 57856 + 204288 := by omega
      exact Or.inl ((Rect.mem_set_unit (inb := inb_S2x262144_S2x204288_0_57856)).mpr (Fin.forall_fin_two.mpr ⟨⟨Nat.zero_le _, h0⟩, ⟨h2, h3⟩⟩))

/-- Two one-word stores leave the pair of their words. -/
theorem read_pair {κ : Kind} {sp : Space} (v : View sig κ sp S2 .i32) (f : v.ty.Contents (Elt F)) (a b : BitVec 32) :
    v.read (Elt F) (v.writes (Elt F) f
        [⟨Rect.unit ![1] S1.size inb_S2_S1_1, fun _ => b⟩, ⟨Rect.unit ![0] S1.size inb_S2_S1_0, fun _ => a⟩])
      = pairOf a b := by
  funext j
  have hj0 : (j 0).val < 2 := (j 0).isLt
  refine (View.read_writes_cons_cell v f _ _ _ j).trans ?_
  unfold pairOf
  by_cases h : (j 0).val = 0
  · have h' : ¬(j 0).val = (![1] : Fin 1 → ℕ) 0 := show ¬(j 0).val = 1 by omega
    rw [if_neg h', if_pos h]
    exact (View.read_writes_cons_cell v f _ _ _ j).trans (if_pos h)
  · have h' : (j 0).val = (![1] : Fin 1 → ℕ) 0 := show (j 0).val = 1 by omega
    rw [if_pos h', if_neg h]

/-! ## The two runs of the body -/

/-- The six staging buffers of core `c`, each owned whole: what they read is listed last. -/
def held (c : Dev nD)
    (M1 : Memref sig .tc .vmem S8192x128 .f32) (M2 : Memref sig .tc .vmem S2x262144 .i32)
    (M3 : Memref sig .tc .vmem S8192x128 .f32) (M4 : Memref sig .tc .vmem S2x262144 .i32)
    (M5 : Memref sig .tc .smem S2 .i32) (M6 : Memref sig .tc .smem S2 .i32)
    (X1 : S8192x128.Idx → Elt F .f32) (X2 : S2x262144.Idx → Elt F .i32)
    (X3 : S8192x128.Idx → Elt F .f32) (X4 : S2x262144.Idx → Elt F .i32) (X5 X6 : S2.Idx → Elt F .i32) : sProp 𝕄 :=
  iprop(owns (c : Thread nD τ) M1 fullShare X1 ∗ owns (c : Thread nD τ) M2 fullShare X2
    ∗ owns (c : Thread nD τ) M3 fullShare X3 ∗ owns (c : Thread nD τ) M4 fullShare X4
    ∗ owns (c : Thread nD τ) M5 fullShare X5 ∗ owns (c : Thread nD τ) M6 fullShare X6)

section Runs

variable (c : Dev nD) (E : Set ℕ) (i : grid0.Coords)
    (M1 : Memref sig .tc .vmem S8192x128 .f32) (h1 : M1.IsWhole) (M2 : Memref sig .tc .vmem S2x262144 .i32) (h2 : M2.IsWhole)
    (M3 : Memref sig .tc .vmem S8192x128 .f32) (h3 : M3.IsWhole) (M4 : Memref sig .tc .vmem S2x262144 .i32) (h4 : M4.IsWhole)
    (M5 : Memref sig .tc .smem S2 .i32) (h5 : M5.IsWhole) (M6 : Memref sig .tc .smem S2 .i32) (h6 : M6.IsWhole)
    (X1 X3 : S8192x128.Idx → Elt F .f32) (X2 X4 : S2x262144.Idx → Elt F .i32) (X5 X6 : S2.Idx → Elt F .i32)

/-- The body where the boundary branches run: the node rows end padded from row 1808 on, the edge columns from
    column 57856 on, and the size words are stored; the inputs are unchanged. -/
theorem sound_boundary
    (hi : k0_cond1 i = 0#1 ∧ k0_cond2 i = 1#1 ∧ k0_cond3 i = 0#1 ∧ k0_cond4 i = 0#1 ∧ k0_cond5 i = 1#1
      ∧ k0_cond6 i = 0#1 ∧ k0_cond7 i = 1#1) (K : PUnit → sProp 𝕄) :
    iprop(held c M1 M2 M3 M4 M5 M6 X1 X2 X3 X4 X5 X6
          ∗ (held c M1 M2 M3 M4 M5 M6 X1 X2 (padRows 1808 X1) (padCols 57856 X2)
              (pairOf 10000#32 6384#32) (pairOf 320000#32 204288#32) -∗ K ⟨⟩))
      ⊢ wp frame (wpE (defs₀ (F := F)) Variants.none c none) E
          (cc0__pad_body i M1 h1 M2 h2 M3 h3 M4 h4 M5 h5 M6 h6) K := by
  obtain ⟨e1, e2, e3, e4, e5, e6, e7⟩ := hi
  rw [cc0__pad_body_eq_skeleton]; unfold cc0__pad_body_skel
  rw [dif_neg (by rw [e1]; decide), dif_pos e2, dif_neg (by rw [e3]; decide), dif_neg (by rw [e4]; decide), dif_pos e5,
    dif_neg (by rw [e6]; decide), dif_pos e7]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists _; isplitr; rotate_left; · iexact H3
    ipureintro; rw [← hf1]; exact read_boundary_rows _ _ _ _
  isplitl [H4]
  · iexists _; isplitr; rotate_left; · iexact H4
    ipureintro; rw [← hf2]; exact read_boundary_cols _ _ _ _
  isplitl [H5]
  · iexists _; isplitr; rotate_left; · iexact H5
    ipureintro; exact read_pair _ _ _ _
  · iexists _; isplitr; rotate_left; · iexact H6
    ipureintro; exact read_pair _ _ _ _

/-- The body where the copy branches run: each output block ends as the input block, the size words stay. -/
theorem sound_copy
    (hi : k0_cond1 i = 1#1 ∧ k0_cond2 i = 0#1 ∧ k0_cond3 i = 0#1 ∧ k0_cond4 i = 1#1 ∧ k0_cond5 i = 0#1
      ∧ k0_cond6 i = 0#1 ∧ k0_cond7 i = 0#1) (K : PUnit → sProp 𝕄) :
    iprop(held c M1 M2 M3 M4 M5 M6 X1 X2 X3 X4 X5 X6
          ∗ (held c M1 M2 M3 M4 M5 M6 X1 X2 X1 X2 X5 X6 -∗ K ⟨⟩))
      ⊢ wp frame (wpE (defs₀ (F := F)) Variants.none c none) E
          (cc0__pad_body i M1 h1 M2 h2 M3 h3 M4 h4 M5 h5 M6 h6) K := by
  obtain ⟨e1, e2, e3, e4, e5, e6, e7⟩ := hi
  rw [cc0__pad_body_eq_skeleton]; unfold cc0__pad_body_skel
  rw [dif_pos e1, dif_neg (by rw [e2]; decide), dif_neg (by rw [e3]; decide), dif_pos e4, dif_neg (by rw [e5]; decide),
    dif_neg (by rw [e6]; decide), dif_neg (by rw [e7]; decide)]
  unfold held owns
  iintro ⟨⟨⟨%f1, %hf1, H1⟩, ⟨%f2, %hf2, H2⟩, ⟨%f3, %hf3, H3⟩, ⟨%f4, %hf4, H4⟩, H5, H6⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists _; isplitr; rotate_left; · iexact H3
    ipureintro; rw [← hf1]; exact (View.read_writes_full _ _ _ _ _).trans (View.readAt_full _ _ _)
  isplitl [H4]
  · iexists _; isplitr; rotate_left; · iexact H4
    ipureintro; rw [← hf2]; exact (View.read_writes_full _ _ _ _ _).trans (View.readAt_full _ _ _)
  isplitl [H5]; · iexact H5
  iexact H6

end Runs

end Cert.PadProof
-- ==== Proof.Run.lean ====
/-
  The run of the whole program: what the launch's proof records of each staging buffer at each of the two grid
  points, the body's obligation from the two runs of the body in `Body.lean`, and the run itself. Everything is
  over any float values `F`: nothing in the program computes with a float.
-/
module

public import proofs.«01_k».proof.Proof.Body
public import proofs.«01_k».proof.Proof.Gen.KernelIdeal.Launch
public import proofs.«01_k».proof.Proof.Gen.KernelIdeal.Points

@[expose] public section

set_option maxRecDepth 16384

noncomputable section

namespace Cert.PadProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at each point -/

/-- How many rows of the block of point `t` lie inside the array of node rows. -/
def rows (t : Fin cfg0.N) : ℕ := if t.val = 0 then 1808 else 8192
/-- How many columns of the block of point `t` lie inside the array of edges. -/
def cols (t : Fin cfg0.N) : ℕ := if t.val = 0 then 57856 else 262144

/-- The block of node rows of point `t` on a full staging buffer: past the array's end, zeros. -/
def rowBlk (c : Dev nD) (t : Fin cfg0.N) : S8192x128.Idx → Elt F .f32 :=
  win0_0.fill (grid0.coords t) (fun _ => zeroF) (iblk m c 0 t)
/-- The block of edge columns of point `t` on a full staging buffer: past the array's end, 10000. -/
def colBlk (c : Dev nD) (t : Fin cfg0.N) : S2x262144.Idx → Elt F .i32 :=
  win0_1.fill (grid0.coords t) (fun _ => (10000#32 : BitVec 32)) (iblk m c 1 t)

/-- The proof data of the one launch: the arrays at their contents when it starts; after the body at point `t` the
    input buffers at their blocks, the output buffers at the padded blocks, the two size buffers at their words. -/
def dats (_ : Fin 1) (c : Dev nD) : Dat τ (Elt F) Unit ℕ (UR sig nD τ) ℕ cfg0 c where
  A w := V m c (Pipeline.arrRef spec0 w)
  after w t := match w with
    | ⟨0, _⟩ => rowBlk m c t
    | ⟨1, _⟩ => colBlk m c t
    | ⟨2, _⟩ => padRows (rows t) (rowBlk m c t)
    | ⟨3, _⟩ => padCols (cols t) (colBlk m c t)
    | ⟨4, _⟩ => pairOf 10000#32 6384#32
    | ⟨5, _⟩ => pairOf 320000#32 204288#32
  Φ _ := Pipeline.ΦA spec0 c
  q _ := fullShare
  owed _ := 0

/-- A row below `rows t` is inside the part the fetch at point `t` moves. -/
theorem moved_rows (t : Fin cfg0.N) (j : S8192x128.Idx) (h : (j 0).val < rows t) :
    win0_0.moved (grid0.coords t) j = true := by
  have hx : win0_0.xsize (grid0.coords t) 0 = rows t ∧ win0_0.xsize (grid0.coords t) 1 = 128 := by
    rcases fin_N0 t with rfl | rfl <;> decide +kernel
  exact (win0_0.moved_iff _ _).mpr fun a => match a with
    | ⟨0, _⟩ => h.trans_eq hx.1.symm
    | ⟨1, _⟩ => (j 1).isLt.trans_eq hx.2.symm

/-- A column below `cols t` is inside the part the fetch at point `t` moves. -/
theorem moved_cols (t : Fin cfg0.N) (j : S2x262144.Idx) (h : (j 1).val < cols t) :
    win0_1.moved (grid0.coords t) j = true := by
  have hx : win0_1.xsize (grid0.coords t) 0 = 2 ∧ win0_1.xsize (grid0.coords t) 1 = cols t := by
    rcases fin_N0 t with rfl | rfl <;> decide +kernel
  exact (win0_1.moved_iff _ _).mpr fun a => match a with
    | ⟨0, _⟩ => (j 0).isLt.trans_eq hx.1.symm
    | ⟨1, _⟩ => h.trans_eq hx.2.symm

/-- Padding a buffer the block was fetched into depends only on the block: the rows padding keeps are the fetched
    ones. -/
theorem padRows_fill (t : Fin cfg0.N) (d d' : S8192x128.Idx → Elt F .f32)
    (g : (win0_0.xblock (grid0.coords t)).Idx → Elt F .f32) :
    padRows (rows t) (win0_0.fill (grid0.coords t) d g) = padRows (rows t) (win0_0.fill (grid0.coords t) d' g) := by
  funext j
  unfold padRows Window.fill
  by_cases h : (j 0).val < rows t
  · rw [if_pos h, if_pos h, dif_pos (moved_rows t j h), dif_pos (moved_rows t j h)]
  · rw [if_neg h, if_neg h]

/-- The same of the edge columns. -/
theorem padCols_fill (t : Fin cfg0.N) (d d' : S2x262144.Idx → Elt F .i32)
    (g : (win0_1.xblock (grid0.coords t)).Idx → Elt F .i32) :
    padCols (cols t) (win0_1.fill (grid0.coords t) d g) = padCols (cols t) (win0_1.fill (grid0.coords t) d' g) := by
  funext j
  unfold padCols Window.fill
  by_cases h : (j 1).val < cols t
  · rw [if_pos h, if_pos h, dif_pos (moved_cols t j h), dif_pos (moved_cols t j h)]
  · rw [if_neg h, if_neg h]

/-! ## What the body finds -/

/-- The two input buffers hold their blocks just fetched, and `d` past the array's end. -/
theorem before_0 (c : Dev nD) (t : Fin cfg0.N) (d) :
    (dats m 0 c).before (0 : Fin 6) t d = win0_0.fill (grid0.coords t) d (iblk m c 0 t) := by
  rw [Dat.before_fetched _ _ _ (fetch0_0 t)]; rfl
theorem before_1 (c : Dev nD) (t : Fin cfg0.N) (d) :
    (dats m 0 c).before (1 : Fin 6) t d = win0_1.fill (grid0.coords t) d (iblk m c 1 t) := by
  rw [Dat.before_fetched _ _ _ (fetch0_1 t)]; rfl

/-- At the second point the size buffers hold what the first point stored: they are written back only at the end. -/
theorem before_4 (c : Dev nD) (d) : (dats m 0 c).before (4 : Fin 6) t0_1 d = pairOf 10000#32 6384#32 := by
  rw [Dat.before_of_pos _ _ _ (by decide) (by decide), if_neg (by decide)]
  have h : cfg0.idle (4 : Fin 6) (cfg0.grid.coords t0_0) = false := by decide +kernel
  show (dats m 0 c).left (4 : Fin 6) t0_0 d = _
  unfold Dat.left
  rw [h]
  rfl
theorem before_5 (c : Dev nD) (d) : (dats m 0 c).before (5 : Fin 6) t0_1 d = pairOf 320000#32 204288#32 := by
  rw [Dat.before_of_pos _ _ _ (by decide) (by decide), if_neg (by decide)]
  have h : cfg0.idle (5 : Fin 6) (cfg0.grid.coords t0_0) = false := by decide +kernel
  show (dats m 0 c).left (5 : Fin 6) t0_0 d = _
  unfold Dat.left
  rw [h]
  rfl

/-! ## The body's obligation -/

/-- What the body at point `t` must leave is what the obligation asks back: the input buffers only on the part inside
    the array, the output buffers as `dats` records them. -/
theorem give_back (c : Dev nD) (t : Fin cfg0.N) (d0 : S8192x128.Idx → Elt F .f32) (d1 : S2x262144.Idx → Elt F .i32) :
    (held c (st0_0 t) (st0_1 t) (st0_2 t) (st0_3 t) (st0_4 t) (st0_5 t)
        (win0_0.fill (grid0.coords t) d0 (iblk m c 0 t)) (win0_1.fill (grid0.coords t) d1 (iblk m c 1 t))
        (padRows (rows t) (win0_0.fill (grid0.coords t) d0 (iblk m c 0 t)))
        (padCols (cols t) (win0_1.fill (grid0.coords t) d1 (iblk m c 1 t)))
        (pairOf 10000#32 6384#32) (pairOf 320000#32 204288#32) : sProp 𝕄)
      ⊢ iprop((∃ d, owns (c : Thread nD τ) (st0_0 t) fullShare
            (win0_0.fill (grid0.coords t) d (win0_0.cut (grid0.coords t) ((dats m 0 c).after (0 : Fin 6) t))))
          ∗ (∃ d, owns (c : Thread nD τ) (st0_1 t) fullShare
            (win0_1.fill (grid0.coords t) d (win0_1.cut (grid0.coords t) ((dats m 0 c).after (1 : Fin 6) t))))
          ∗ owns (c : Thread nD τ) (st0_2 t) fullShare ((dats m 0 c).after (2 : Fin 6) t)
          ∗ owns (c : Thread nD τ) (st0_3 t) fullShare ((dats m 0 c).after (3 : Fin 6) t)
          ∗ owns (c : Thread nD τ) (st0_4 t) fullShare ((dats m 0 c).after (4 : Fin 6) t)
          ∗ owns (c : Thread nD τ) (st0_5 t) fullShare ((dats m 0 c).after (5 : Fin 6) t)) := by
  have h0 : win0_0.cut (grid0.coords t) ((dats m 0 c).after (0 : Fin 6) t) = iblk m c 0 t := win0_0.cut_fill _ _ _
  have h1 : win0_1.cut (grid0.coords t) ((dats m 0 c).after (1 : Fin 6) t) = iblk m c 1 t := win0_1.cut_fill _ _ _
  have h2 : padRows (rows t) (win0_0.fill (grid0.coords t) d0 (iblk m c 0 t)) = (dats m 0 c).after (2 : Fin 6) t :=
    padRows_fill t _ _ _
  have h3 : padCols (cols t) (win0_1.fill (grid0.coords t) d1 (iblk m c 1 t)) = (dats m 0 c).after (3 : Fin 6) t :=
    padCols_fill t _ _ _
  unfold held
  rw [h0, h1, h2, h3]
  iintro ⟨H0, H1, H2, H3, H4, H5⟩
  isplitl [H0]; · iexists d0; iexact H0
  isplitl [H1]; · iexists d1; iexact H1
  isplitl [H2]; · iexact H2
  isplitl [H3]; · iexact H3
  isplitl [H4]; · iexact H4
  iexact H5

/-- The obligation at each of the two points: the boundary run of the body at the first, the copy at the second. -/
theorem body_obligation (c : Dev nD) : BodyObligationLoose (dats m 0 c) (defs₀ (F := F)) Variants.none () Set.univ := fun t => by
  rw [bigSep_W0, bigSep_W0]
  rcases fin_N0 t with rfl | rfl
  · have h2 : cfg0.idle (2 : Fin 6) (cfg0.grid.coords t0_0) = false := by decide +kernel
    have h3 : cfg0.idle (3 : Fin 6) (cfg0.grid.coords t0_0) = false := by decide +kernel
    have h4 : cfg0.idle (4 : Fin 6) (cfg0.grid.coords t0_0) = false := by decide +kernel
    have h5 : cfg0.idle (5 : Fin 6) (cfg0.grid.coords t0_0) = false := by decide +kernel
    simp only [h2, h3, h4, h5]
    rw [show (dats m 0 c).Φ t0_0.succ = (dats m 0 c).Φ t0_0.castSucc from rfl,
      show (dats m 0 c).owesAt () t0_0.succ = (dats m 0 c).owesAt () t0_0.castSucc from rfl]
    iintro ⟨HΦ, Ho, ⟨%d0, H0⟩, ⟨%d1, H1⟩, ⟨%d2, H2⟩, ⟨%d3, H3⟩, ⟨%d4, H4⟩, ⟨%d5, H5⟩⟩
    rw [before_0 m c t0_0 d0, before_1 m c t0_0 d1]
    iapply (sound_boundary (F := F) c Set.univ (grid0.coords t0_0) (st0_0 t0_0) (hstage0_0 ((cfg0.slots t0_0 0).cast nbuf0_0))
      (st0_1 t0_0) (hstage0_1 ((cfg0.slots t0_0 1).cast nbuf0_1)) (st0_2 t0_0) (hstage0_2 ((cfg0.slots t0_0 2).cast nbuf0_2))
      (st0_3 t0_0) (hstage0_3 ((cfg0.slots t0_0 3).cast nbuf0_3)) (st0_4 t0_0) (hstage0_4 ((cfg0.slots t0_0 4).cast nbuf0_4))
      (st0_5 t0_0) (hstage0_5 ((cfg0.slots t0_0 5).cast nbuf0_5))
      (win0_0.fill (grid0.coords t0_0) d0 (iblk m c 0 t0_0)) ((dats m 0 c).before (2 : Fin 6) t0_0 d2)
      (win0_1.fill (grid0.coords t0_0) d1 (iblk m c 1 t0_0)) ((dats m 0 c).before (3 : Fin 6) t0_0 d3)
      ((dats m 0 c).before (4 : Fin 6) t0_0 d4) ((dats m 0 c).before (5 : Fin 6) t0_0 d5) (by decide +kernel) _)
    isplitl [H0 H1 H2 H3 H4 H5]
    · unfold held
      isplitl [H0]; · iexact H0
      isplitl [H1]; · iexact H1
      isplitl [H2]; · iexact H2
      isplitl [H3]; · iexact H3
      isplitl [H4]; · iexact H4
      iexact H5
    iintro H
    isplitl [HΦ]; · iexact HΦ
    isplitl [Ho]; · iexact Ho
    iapply (give_back m c t0_0 d0 d1)
    iexact H
  · have h2 : cfg0.idle (2 : Fin 6) (cfg0.grid.coords t0_1) = false := by decide +kernel
    have h3 : cfg0.idle (3 : Fin 6) (cfg0.grid.coords t0_1) = false := by decide +kernel
    have h4 : cfg0.idle (4 : Fin 6) (cfg0.grid.coords t0_1) = true := by decide +kernel
    have h5 : cfg0.idle (5 : Fin 6) (cfg0.grid.coords t0_1) = true := by decide +kernel
    have f4 : (cfg0.win (4 : Fin 6)).flush t0_1 = true := by decide
    have f5 : (cfg0.win (5 : Fin 6)).flush t0_1 = true := by decide
    simp only [h2, h3, h4, h5, f4, f5]
    rw [show (dats m 0 c).Φ t0_1.succ = (dats m 0 c).Φ t0_1.castSucc from rfl,
      show (dats m 0 c).owesAt () t0_1.succ = (dats m 0 c).owesAt () t0_1.castSucc from rfl]
    iintro ⟨HΦ, Ho, ⟨%d0, H0⟩, ⟨%d1, H1⟩, ⟨%d2, H2⟩, ⟨%d3, H3⟩, ⟨%d4, H4⟩, ⟨%d5, H5⟩⟩
    rw [before_0 m c t0_1 d0, before_1 m c t0_1 d1, before_4 m c d4, before_5 m c d5]
    iapply (sound_copy (F := F) c Set.univ (grid0.coords t0_1) (st0_0 t0_1) (hstage0_0 ((cfg0.slots t0_1 0).cast nbuf0_0))
      (st0_1 t0_1) (hstage0_1 ((cfg0.slots t0_1 1).cast nbuf0_1)) (st0_2 t0_1) (hstage0_2 ((cfg0.slots t0_1 2).cast nbuf0_2))
      (st0_3 t0_1) (hstage0_3 ((cfg0.slots t0_1 3).cast nbuf0_3)) (st0_4 t0_1) (hstage0_4 ((cfg0.slots t0_1 4).cast nbuf0_4))
      (st0_5 t0_1) (hstage0_5 ((cfg0.slots t0_1 5).cast nbuf0_5))
      (win0_0.fill (grid0.coords t0_1) d0 (iblk m c 0 t0_1)) ((dats m 0 c).before (2 : Fin 6) t0_1 d2)
      (win0_1.fill (grid0.coords t0_1) d1 (iblk m c 1 t0_1)) ((dats m 0 c).before (3 : Fin 6) t0_1 d3)
      (pairOf 10000#32 6384#32) (pairOf 320000#32 204288#32) (by decide +kernel) _)
    isplitl [H0 H1 H2 H3 H4 H5]
    · unfold held
      isplitl [H0]; · iexact H0
      isplitl [H1]; · iexact H1
      isplitl [H2]; · iexact H2
      isplitl [H3]; · iexact H3
      isplitl [H4]; · iexact H4
      iexact H5
    iintro H
    isplitl [HΦ]; · iexact HΦ
    isplitl [Ho]; · iexact Ho
    have e0 : padRows (rows t0_1) (win0_0.fill (grid0.coords t0_1) d0 (iblk m c 0 t0_1))
        = win0_0.fill (grid0.coords t0_1) d0 (iblk m c 0 t0_1) := padRows_whole _
    have e1 : padCols (cols t0_1) (win0_1.fill (grid0.coords t0_1) d1 (iblk m c 1 t0_1))
        = win0_1.fill (grid0.coords t0_1) d1 (iblk m c 1 t0_1) := padCols_whole _
    have hb := give_back m c t0_1 d0 d1
    rw [e0, e1] at hb
    iapply hb
    iexact H

/-! ## The run -/

set_option backward.isDefEq.respectTransparency.types false in
/-- From any memory with every semaphore at zero, every execution of the program ends, with every semaphore at zero
    again, each of the launch's arrays at what `dats` records of it, and every other buffer at what the host lines
    before and after the launch leave there. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around cfgs (dats m) 0 launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (Q' := _) (hmain := hmain m Variants.none) (hA := fun _ _ => rfl) (hΦ := fun _ _ => rfl) (hQ' := fun _ h => h)

end Cert.PadProof

end
-- ==== Proof.Masks.lean ====
/-
  The program's literal for the nodes' mask, read at an index: one below the number of nodes, zero from there on.

  The literal is a tree of matches on the digits of the index in base 128. A leaf is all ones, all zeros, or the one
  leaf the boundary falls in.
-/
module

public import proofs.«01_k».proof.KernelIdeal
public import Mathlib.Tactic.IntervalCases

@[expose] public section

set_option maxRecDepth 16384

noncomputable section

namespace Cert.PadProof

open Cert.KernelIdeal

/-! ## The leaves -/

/-- A leaf of ones, a leaf of zeros, and the leaf with the last sixteen nodes. -/
theorem leaf_ones (i : ℕ) : lit0t0_0 i = 1#1 := by
  have h : i % 128 < 128 := Nat.mod_lt _ (by decide)
  unfold lit0t0_0
  generalize i % 128 = b at h
  interval_cases b <;> rfl
theorem leaf_zeros (i : ℕ) : lit0t0_127 i = 0#1 := by
  have h : i % 128 < 128 := Nat.mod_lt _ (by decide)
  unfold lit0t0_127
  generalize i % 128 = b at h
  interval_cases b <;> rfl
theorem leaf_boundary (i : ℕ) : lit0t0_78 i = if i % 128 < 16 then 1#1 else 0#1 := by
  have h : i % 128 < 128 := Nat.mod_lt _ (by decide)
  unfold lit0t0_78
  generalize i % 128 = b at h
  interval_cases b <;> rfl

/-! ## The literal -/

/-- The literal is one exactly below 10000. -/
theorem lit0_eq (i : Fin 16384) : lit0 i = if i.val < 10000 then 1#1 else 0#1 := by
  obtain ⟨i, hi⟩ := i
  show lit0t i = if i < 10000 then 1#1 else 0#1
  unfold lit0t
  rcases Nat.lt_trichotomy (i / 128) 78 with h | h | h
  · rw [if_pos (by omega)]
    generalize i / 128 = b at h
    interval_cases b <;> exact leaf_ones i
  · rw [h]
    refine (leaf_boundary i).trans ?_
    congr 1
    exact propext (by omega)
  · rw [if_neg (by omega)]
    have hb : i / 128 < 128 := by omega
    generalize i / 128 = b at h hb
    interval_cases b <;> exact leaf_zeros i

end Cert.PadProof

end
-- ==== Proof.Value.lean ====
/-
  What the program leaves in its results: the node rows and the edge columns padded, whatever the float values.
-/
module

public import proofs.«01_k».proof.Proof.Run
public import proofs.«01_k».proof.Proof.Masks
public import Idealize.ShloMosaic.Lib.Pipeline.Value
public import Idealize.ShloMosaic.Lib.Pipeline.ValueKit
public import Idealize.ShloMosaic.Lib.WordCmp

@[expose] public section

set_option maxRecDepth 16384

noncomputable section

namespace Cert.PadProof

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The padded arrays -/

/-- The array of node rows padded with zero rows to 16384 rows. -/
def nodesPadded (x : S10000x128.Idx → Elt F .f32) : S16384x128.Idx → Elt F .f32 := fun j =>
  if h : (j 0).val < 10000 then
    x fun a => match a with
      | ⟨0, _⟩ => ⟨(j 0).val, h⟩
      | ⟨1, _⟩ => ⟨(j 1).val, (j 1).isLt⟩
  else zeroF

/-- The array of edges padded with columns of the index 10000 to 524288 columns. -/
def edgesPadded (e : S2x320000.Idx → Elt F .i32) : S2x524288.Idx → Elt F .i32 := fun j =>
  if h : (j 1).val < 320000 then
    e fun a => match a with
      | ⟨0, _⟩ => ⟨(j 0).val, (j 0).isLt⟩
      | ⟨1, _⟩ => ⟨(j 1).val, h⟩
  else (10000#32 : BitVec 32)

/-! ## The blocks inside the arrays -/

/-- Which block of rows, and which block of columns, each point takes: the grid runs backwards. -/
theorem index_0 : ∀ t : Fin cfg0.N, win0_0.index t = ![1 - t.val, 0] := by decide +kernel
theorem index_1 : ∀ t : Fin cfg0.N, win0_1.index t = ![0, 1 - t.val] := by decide +kernel
theorem index_2 : ∀ t : Fin cfg0.N, win0_2.index t = ![1 - t.val, 0] := by decide +kernel
theorem index_3 : ∀ t : Fin cfg0.N, win0_3.index t = ![0, 1 - t.val] := by decide +kernel

/-- A row of point `t`'s block is one the fetch brought exactly if it is a row of the array. -/
theorem lt_rows (t : Fin cfg0.N) (n : ℕ) (hn : n < 8192) : n < rows t ↔ (1 - t.val) * 8192 + n < 10000 := by
  have ht : t.val < 2 := t.isLt
  unfold rows
  rcases (by omega : t.val = 0 ∨ t.val = 1) with h | h
  · rw [if_pos h, h]; omega
  · rw [if_neg (by omega), h]; omega

/-- The same of the edge columns. -/
theorem lt_cols (t : Fin cfg0.N) (n : ℕ) (hn : n < 262144) : n < cols t ↔ (1 - t.val) * 262144 + n < 320000 := by
  have ht : t.val < 2 := t.isLt
  unfold cols
  rcases (by omega : t.val = 0 ∨ t.val = 1) with h | h
  · rw [if_pos h, h]; omega
  · rw [if_neg (by omega), h]; omega

/-- The first result ends as the node rows padded. -/
theorem rows_final (c : Dev nD) :
    (dats m 0 c).arrAt (2 : Fin 6) cfg0.N = nodesPadded (m ((c : Thread nD τ).loc main_arg0)) := by
  refine (dats m 0 c).arrAt_eq_of_covers (2 : Fin 6) _ (by decide +kernel) fun t hf y => ?_
  blk_simp
  have e0 : ((win0_2.blk t).view.emb y 0 : ℕ) = (1 - t.val) * 8192 + (y 0).val := by blk_simp [index_2]
  have hr : (y 0).val < rows t ↔ ((win0_2.blk t).view.emb y 0 : ℕ) < 10000 := by
    rw [e0]; exact lt_rows t _ (y 0).isLt
  show padRows (rows t) (rowBlk m c t) y = _
  unfold padRows nodesPadded
  by_cases h : (y 0).val < rows t
  · rw [if_pos h, dif_pos (hr.mp h)]
    unfold rowBlk Window.fill
    rw [dif_pos (moved_rows t y h)]
    blk_simp [iblk]
    refine congrArg (m ((c : Thread nD τ).loc main_arg0)) (funext fun a => Fin.ext ?_)
    match a with
    | ⟨0, _⟩ =>
      show ((win0_0.blk t).view.emb _ 0 : ℕ) = win0_2.index t 0 * 8192 + (y 0).val
      blk_simp [index_0, index_2]
    | ⟨1, _⟩ =>
      show ((win0_0.blk t).view.emb _ 1 : ℕ) = win0_2.index t 1 * 128 + (y 1).val
      blk_simp [index_0, index_2]
  · rw [if_neg h, dif_neg fun h' => h (hr.mpr h')]

/-- The second result ends as the edge columns padded. -/
theorem cols_final (c : Dev nD) :
    (dats m 0 c).arrAt (3 : Fin 6) cfg0.N = edgesPadded (m ((c : Thread nD τ).loc main_arg1)) := by
  refine (dats m 0 c).arrAt_eq_of_covers (3 : Fin 6) _ (by decide +kernel) fun t hf y => ?_
  blk_simp
  have e1 : ((win0_3.blk t).view.emb y 1 : ℕ) = (1 - t.val) * 262144 + (y 1).val := by blk_simp [index_3]
  have hr : (y 1).val < cols t ↔ ((win0_3.blk t).view.emb y 1 : ℕ) < 320000 := by
    rw [e1]; exact lt_cols t _ (y 1).isLt
  show padCols (cols t) (colBlk m c t) y = _
  unfold padCols edgesPadded
  by_cases h : (y 1).val < cols t
  · rw [if_pos h, dif_pos (hr.mp h)]
    unfold colBlk Window.fill
    rw [dif_pos (moved_cols t y h)]
    blk_simp [iblk]
    refine congrArg (m ((c : Thread nD τ).loc main_arg1)) (funext fun a => Fin.ext ?_)
    match a with
    | ⟨0, _⟩ =>
      show ((win0_1.blk t).view.emb _ 0 : ℕ) = win0_3.index t 0 * 2 + (y 0).val
      blk_simp [index_1, index_3]
    | ⟨1, _⟩ =>
      show ((win0_1.blk t).view.emb _ 1 : ℕ) = win0_3.index t 1 * 262144 + (y 1).val
      blk_simp [index_1, index_3]
  · rw [if_neg h, dif_neg fun h' => h (hr.mpr h')]

/-- The two size results end as their two words each, written back once, after the second point. -/
theorem nodeSizes_final (c : Dev nD) : (dats m 0 c).arrAt (4 : Fin 6) cfg0.N = pairOf (F := F) 10000#32 6384#32 := by
  refine (dats m 0 c).arrAt_eq_of_covers (4 : Fin 6) _ (by decide +kernel) fun t hf y => ?_
  blk_simp
  have e0 : ((win0_4.blk t).view.emb y 0 : ℕ) = (y 0).val := by
    blk_simp [show ∀ t : Fin cfg0.N, win0_4.index t = ![0] by decide +kernel]
  show (if (y 0).val = 0 then 10000#32 else 6384#32 : BitVec 32)
    = if ((win0_4.blk t).view.emb y 0 : ℕ) = 0 then 10000#32 else 6384#32
  rw [e0]
theorem edgeSizes_final (c : Dev nD) : (dats m 0 c).arrAt (5 : Fin 6) cfg0.N = pairOf (F := F) 320000#32 204288#32 := by
  refine (dats m 0 c).arrAt_eq_of_covers (5 : Fin 6) _ (by decide +kernel) fun t hf y => ?_
  blk_simp
  have e0 : ((win0_5.blk t).view.emb y 0 : ℕ) = (y 0).val := by
    blk_simp [show ∀ t : Fin cfg0.N, win0_5.index t = ![0] by decide +kernel]
  show (if (y 0).val = 0 then 320000#32 else 204288#32 : BitVec 32)
    = if ((win0_5.blk t).view.emb y 0 : ℕ) = 0 then 320000#32 else 204288#32
  rw [e0]

/-! ## The program's results -/

/-- The masks of the two padded axes: whether the position is below 10000, and whether it is below 320000. -/
def nodeMask : S16384.Idx → Elt F .i1 := fun j => (if (j 0).val < 10000 then 1#1 else 0#1 : BitVec 1)
def edgeMask : S524288.Idx → Elt F .i1 := fun j => (if (j 0).val < 320000 then 1#1 else 0#1 : BitVec 1)

/-- The program's literal is the nodes' mask. -/
theorem lit0_mask : (fun i => lit0 (S16384.rowMajor i) : S16384.Idx → Elt F .i1) = nodeMask (F := F) := by
  funext j
  refine (lit0_eq (S16384.rowMajor j)).trans ?_
  rw [show (S16384.rowMajor j).val = (j 0).val from Shape.rowMajor_val_one j]
  rfl

/-- The positions compared with 320000 are the edges' mask. -/
theorem compared_mask :
    (cmpi .slt (iotaInDim S524288 32 0) (broadcastInDim S524288 ![] bcast_S_S524288 (constantI S_ 32 320000#32)) : S524288.Idx → Elt F .i1)
      = edgeMask (F := F) := by
  funext j
  have hj : (j 0).val < 524288 := (j 0).isLt
  refine (WordCmp.cmpi_slt_ofNat (w := 32) (a := (j 0).val) (b := 320000) (by omega) (by omega)).trans ?_
  unfold edgeMask
  by_cases h : (j 0).val < 320000
  · rw [if_pos h, decide_eq_true h]; rfl
  · rw [if_neg h, decide_eq_false h]; rfl

/-- From any memory with every semaphore at zero, every execution of the program ends with the six results at
    the padded arrays, the masks and the size words, the arguments unchanged, and every semaphore at zero. -/
theorem run_results : θ_run defs (onTc (τ := τ) (main (F := F))) ⟨m, fun _ => 0, ρ⟩ (fun r =>
    (∀ c : Dev nD,
      r.2.mem ((c.tc : Thread nD τ).loc main_v0_0) = nodesPadded (m ((c.tc : Thread nD τ).loc main_arg0))
      ∧ r.2.mem ((c.tc : Thread nD τ).loc main_v0_1) = edgesPadded (m ((c.tc : Thread nD τ).loc main_arg1))
      ∧ r.2.mem ((c.tc : Thread nD τ).loc main_c) = nodeMask (F := F)
      ∧ r.2.mem ((c.tc : Thread nD τ).loc main_v3) = edgeMask (F := F)
      ∧ r.2.mem ((c.tc : Thread nD τ).loc main_v0_2) = pairOf (F := F) 10000#32 6384#32
      ∧ r.2.mem ((c.tc : Thread nD τ).loc main_v0_3) = pairOf (F := F) 320000#32 204288#32
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c =>
    ⟨((h.1 c).1 2).trans (rows_final m c), ((h.1 c).1 3).trans (cols_final m c),
      ((h.1 c).2 main_c (by decide)).trans (Eq.trans (by
        unfold Pipeline.afterTail₀ V0; simp only [List.flatten_cons, List.flatten_nil, List.append_nil]
        after_results <;> rfl) lit0_mask),
      ((h.1 c).2 main_v3 (by decide)).trans (Eq.trans (by
        unfold Pipeline.afterTail₀; simp only [List.flatten_cons, List.flatten_nil, List.append_nil]
        after_results <;> rfl) compared_mask),
      ((h.1 c).1 4).trans (nodeSizes_final m c), ((h.1 c).1 5).trans (edgeSizes_final m c),
      ((h.1 c).1 0).trans (((dats m 0 c).arrAt_in 0 rfl _).trans (V_main_arg0 m c)),
      ((h.1 c).1 1).trans (((dats m 0 c).arrAt_in 1 rfl _).trans (V_main_arg1 m c))⟩, h.2⟩)
    (run_main m ρ)

end Cert.PadProof

end
-- ==== Proof.Agree.lean ====
/-
  The reference's results are the padded arrays the program leaves: its two concatenations read at an index, and its
  two literal size words.
-/
module

public import proofs.«01_k».proof.Proof.Value
public import proofs.«01_k».proof.Proof.Gen.ReferenceIdeal.Run
public import Idealize.ShloMosaic.Lib.Pointwise
public import Idealize.ShloMosaic.Lib.WordCmp

@[expose] public section

set_option maxRecDepth 16384

noncomputable section

namespace Cert.PadProof

open Cert.ReferenceIdeal Cert.ReferenceIdeal.Gen
open Idealize.ShloMosaic Idealize.ShloMosaic.TcCoe

variable {F : FTy → Type} [FloatOps F]

/-- The node rows followed by 6384 rows of the float zero are the node rows padded. -/
theorem nodes_agree (x : S10000x128.Idx → Elt F .f32) :
    concatenate S16384x128 0 [⟨S10000x128, x⟩,
        ⟨S6384x128, (broadcastInDim S6384x128 ![] bcast_S_S6384x128 (constant S_ .f32 0x00000000#32 : S_.Idx → Elt F .f32))⟩]
        concatenates_S10000x128_S6384x128_S16384x128_d0
      = nodesPadded x := by
  funext j
  unfold nodesPadded
  by_cases h : (j 0).val < 10000
  · rw [dif_pos h]
    refine concatenate_pair_apply_left 0 x _ _ j rfl _ fun b => ?_
    match b with
    | ⟨0, _⟩ => rfl
    | ⟨1, _⟩ => rfl
  · rw [dif_neg h]
    have hj : (j 0).val < 16384 := (j 0).isLt
    have hk : (j 0).val - 10000 < 6384 := by omega
    let i : S6384x128.Idx := fun b => match b with
      | ⟨0, _⟩ => ⟨(j 0).val - 10000, hk⟩
      | ⟨1, _⟩ => ⟨(j 1).val, (j 1).isLt⟩
    refine (concatenate_pair_apply_right (s₂ := S6384x128) 0 x _ _ j rfl rfl i (fun b hb => ?_) ?_).trans rfl
    · obtain rfl : b = (1 : Fin 2) := by
        rcases Fin.exists_fin_two.mp ⟨b, rfl⟩ with h' | h'
        · exact absurd (congrArg (Fin.cast _) h') hb
        · exact h'
      rfl
    · show (j 0).val - 10000 + 10000 = (j 0).val
      omega

/-- The edge columns followed by 204288 columns of the index 10000 are the edge columns padded. -/
theorem edges_agree (e : S2x320000.Idx → Elt F .i32) :
    concatenate S2x524288 1 [⟨S2x320000, e⟩,
        ⟨S2x204288, (broadcastInDim S2x204288 ![] bcast_S_S2x204288 (constantI S_ 32 10000#32 : S_.Idx → Elt F .i32))⟩]
        concatenates_S2x320000_S2x204288_S2x524288_d1
      = edgesPadded e := by
  funext j
  unfold edgesPadded
  by_cases h : (j 1).val < 320000
  · rw [dif_pos h]
    refine concatenate_pair_apply_left 1 e _ _ j rfl _ fun b => ?_
    match b with
    | ⟨0, _⟩ => rfl
    | ⟨1, _⟩ => rfl
  · rw [dif_neg h]
    have hj : (j 1).val < 524288 := (j 1).isLt
    have hk : (j 1).val - 320000 < 204288 := by omega
    let i : S2x204288.Idx := fun b => match b with
      | ⟨0, _⟩ => ⟨(j 0).val, (j 0).isLt⟩
      | ⟨1, _⟩ => ⟨(j 1).val - 320000, hk⟩
    refine (concatenate_pair_apply_right (s₂ := S2x204288) 1 e _ _ j rfl rfl i (fun b hb => ?_) ?_).trans rfl
    · obtain rfl : b = (0 : Fin 2) := by
        rcases Fin.exists_fin_two.mp ⟨b, rfl⟩ with h' | h'
        · exact h'
        · exact absurd (congrArg (Fin.cast _) h') hb
      rfl
    · show (j 1).val - 320000 + 320000 = (j 1).val
      omega

/-- The reference's two masks, positions compared with the number of nodes or edges, are the masks. -/
theorem nodeMask_agree :
    (cmpi .slt (iotaInDim S16384 32 0) (broadcastInDim S16384 ![] bcast_S_S16384 (constantI S_ 32 10000#32)) : S16384.Idx → Elt F .i1)
      = nodeMask (F := F) := by
  funext j
  have hj : (j 0).val < 16384 := (j 0).isLt
  refine (WordCmp.cmpi_slt_ofNat (w := 32) (a := (j 0).val) (b := 10000) (by omega) (by omega)).trans ?_
  unfold nodeMask
  by_cases h : (j 0).val < 10000
  · rw [if_pos h, decide_eq_true h]; rfl
  · rw [if_neg h, decide_eq_false h]; rfl
theorem edgeMask_agree :
    (cmpi .slt (iotaInDim S524288 32 0) (broadcastInDim S524288 ![] bcast_S_S524288 (constantI S_ 32 320000#32)) : S524288.Idx → Elt F .i1)
      = edgeMask (F := F) := compared_mask

/-- A literal of two words is the pair of them. -/
theorem pair_agree (f : Fin 2 → BitVec 32) (a b : BitVec 32) (h0 : f 0 = a) (h1 : f 1 = b) :
    (fun i => f (S2.rowMajor i) : S2.Idx → Elt F .i32) = pairOf (F := F) a b := by
  funext i
  have hv : (S2.rowMajor i).val = (i 0).val := Shape.rowMajor_val_one i
  have hi : (i 0).val < 2 := (i 0).isLt
  unfold pairOf
  by_cases h : (i 0).val = 0
  · rw [if_pos h, ← h0]
    exact congrArg f (Fin.ext (hv.trans h))
  · rw [if_neg h, ← h1]
    exact congrArg f (Fin.ext (hv.trans (show (i 0).val = 1 by omega)))

end Cert.PadProof

end
-- ==== Proof.Same.lean ====
/-
  The program and its idealized text hold the same literal, entry by entry.
-/
module

public import proofs.«01_k».proof.Kernel
public import proofs.«01_k».proof.KernelIdeal

@[expose] public section

set_option maxRecDepth 16384

noncomputable section

namespace Cert.PadProof

set_option maxHeartbeats 4000000 in
/-- The nodes' literal is the same in both. -/
theorem lit0_same : Cert.Kernel.lit0 = Cert.KernelIdeal.lit0 := rfl

end Cert.PadProof

end
-- ==== Proof.lean ====
/-
  The proof of `Cert.Claim`: the program and its idealized text run and leave their arguments and semaphores as they
  found them, so does the reference, and at exact floats the program's six results are the reference's.

  `Proof/Body.lean` runs the kernel body at each kind of grid point, `Proof/Run.lean` the whole program,
  `Proof/Masks.lean` reads its mask literal, `Proof/Value.lean` reads the results off that run, `Proof/Agree.lean` reads
  the reference's, and `Proof/Same.lean` compares the two programs' literals for that mask.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Agree
public import proofs.«01_k».proof.Proof.Same
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- At any float values the idealized program's text runs, its arguments unchanged, every semaphore back at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2.2.2.2.2.2, h.2⟩)
    (Cert.PadProof.run_results m ρ)

/-- The idealized program runs, its arguments unchanged, every semaphore back at zero. -/
theorem frame_kernelIdeal : Cert.quiescent_KernelIdeal := fun m ρ _ => frame_any (F := Ideal) m ρ

/-- The two programs' body tables are one: the kernel's text is the same in both. -/
theorem body_table : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl

/-- So are their tables with the launch added. -/
theorem table : Cert.Kernel.defs (F := Bits) = Cert.KernelIdeal.defs (F := Bits) := by
  unfold Cert.Kernel.defs Cert.KernelIdeal.defs
  exact congrArg _ body_table

/-- And so are their texts outside the kernel. -/
theorem text : Cert.Kernel.main (F := Bits) = Cert.KernelIdeal.main (F := Bits) := by
  unfold Cert.Kernel.main Cert.KernelIdeal.main
  rw [Cert.PadProof.lit0_same]
  generalize Cert.KernelIdeal.lit0 = nodes
  rfl

/-- The program itself runs, its arguments unchanged, every semaphore back at zero: it is the idealized program's text,
    read at bit patterns. -/
theorem frame_kernel : Cert.quiescent_Kernel := by
  intro m ρ _
  have h := frame_any (F := Bits) m ρ
  rw [← table, ← text] at h
  exact h

/-- The reference runs, its arguments unchanged; it has no semaphore. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- From memories that agree on the two arguments, the program and the reference end with the same six results: the
    node rows and the edge columns padded, the two masks, and the two pairs of sizes. -/
theorem agree : Cert.algebraic_KernelIdeal_ReferenceIdeal := by
  intro m ρ m' ρ' _ hm
  refine ⟨fun c => Cert.PadProof.nodesPadded (m ((c.tc : Thread Cert.KernelIdeal.nD Cert.KernelIdeal.τ).loc Cert.KernelIdeal.main_arg0)),
    fun c => Cert.PadProof.edgesPadded (m ((c.tc : Thread Cert.KernelIdeal.nD Cert.KernelIdeal.τ).loc Cert.KernelIdeal.main_arg1)),
    fun _ => Cert.PadProof.nodeMask (F := Ideal), fun _ => Cert.PadProof.edgeMask (F := Ideal),
    fun _ => Cert.PadProof.pairOf (F := Ideal) 10000#32 6384#32,
    fun _ => Cert.PadProof.pairOf (F := Ideal) 320000#32 204288#32,
    (θ_run Cert.KernelIdeal.defs _ _).mono (fun _ h => h.1) (Cert.PadProof.run_results (F := Ideal) m ρ), ?_⟩
  refine (θ_run Cert.ReferenceIdeal.defs _ _).mono (fun r h c => ?_) (Cert.ReferenceIdeal.Value.run (F := Ideal) m' ρ')
  obtain ⟨h0, h1, h2, h3, h4, h5, h6, h7⟩ := h c
  refine ⟨h0.trans ?_, h1.trans ?_, h2.trans Cert.PadProof.nodeMask_agree,
    h3.trans Cert.PadProof.edgeMask_agree, h4.trans (Cert.PadProof.pair_agree _ _ _ rfl rfl),
    h5.trans (Cert.PadProof.pair_agree _ _ _ rfl rfl), h6, h7⟩
  · rw [(hm c).1]; exact Cert.PadProof.nodes_agree _
  · rw [(hm c).2]; exact Cert.PadProof.edges_agree _

theorem claim : Cert.Claim :=
  ⟨Cert.Kernel.Gen.facts, Cert.KernelIdeal.Gen.facts, Cert.ReferenceIdeal.Gen.facts,
    frame_kernel, frame_kernelIdeal, frame_reference, trivial, agree⟩

end Cert.Proof

end
